-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v12)) (v2 : (c : Dev Cert.KernelIdeal.nD) → Buf (Elt Ideal) ((c.tc : Thread Cert.KernelIdeal.nD Cert.KernelIdeal.τ).loc Cert.KernelIdeal.main_v11)) (v3 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_v11) = v2 c
          ∧ r.2.mem ((c.tc : Thread Cert.KernelIdeal.nD Cert.KernelIdeal.τ).loc Cert.KernelIdeal.main_arg1) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_v27) = v2 c
          ∧ r.2.mem ((c.tc : Thread Cert.ReferenceIdeal.nD Cert.ReferenceIdeal.τ).loc Cert.ReferenceIdeal.main_arg1) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S8x128x20000 : Shape := ⟨3, ![8, 128, 20000]⟩
abbrev S8x20000x2 : Shape := ⟨3, ![8, 20000, 2]⟩
abbrev S8x20000x6 : Shape := ⟨3, ![8, 20000, 6]⟩
abbrev S128x128 : Shape := ⟨2, ![128, 128]⟩
abbrev S128 : Shape := ⟨1, ![128]⟩
abbrev S18x128 : Shape := ⟨2, ![18, 128]⟩
abbrev S18 : Shape := ⟨1, ![18]⟩
abbrev S7x128 : Shape := ⟨2, ![7, 128]⟩
abbrev S7 : Shape := ⟨1, ![7]⟩
abbrev S_ : Shape := ⟨0, ![]⟩
abbrev S128x1 : Shape := ⟨2, ![128, 1]⟩

class Facts : Prop where
  bcast_S_S128 : S_.BroadcastsInDim S128 (![] : Fin 0 → Fin S128.rank)
  bcast_S128_S128x1_0 : S128.BroadcastsInDim S128x1 (![0] : Fin 1 → Fin S128x1.rank)
  bcast_S_S128x128 : S_.BroadcastsInDim S128x128 (![] : Fin 0 → Fin S128x128.rank)
  bcast_S128x1_S128x128_0_1 : S128x1.BroadcastsInDim S128x128 (![0, 1] : Fin 2 → Fin S128x128.rank)
  reducesTo_S128_S_d0 : S128.ReducesTo [0] S_
  h_S_ : 0 < S_.numel
  bcast_S_S8x128x20000 : S_.BroadcastsInDim S8x128x20000 (![] : Fin 0 → Fin S8x128x20000.rank)

variable [Facts]

def fn {F : FTy → Type} [FloatOps F] (main_arg0 : FVec F S8x128x20000 .f32) (main_arg1 : FVec F S8x20000x2 .f32) (main_arg2 : FVec F S8x20000x6 .f32) (main_arg3 : FVec F S128x128 .f32) (main_arg4 : FVec F S128 .f32) (main_arg5 : FVec F S128 .f32) (main_arg6 : FVec F S128 .f32) (main_arg7 : FVec F S18x128 .f32) (main_arg8 : FVec F S18 .f32) (main_arg9 : FVec F S7x128 .f32) (main_arg10 : FVec F S7 .f32) : IVec S128 1 × IVec S128x128 1 × IVec S8x128x20000 1 :=
  let main_cst : FVec F S_ .f32 := constant S_ .f32 0x00000000#32
  let main_v0 : FVec F S128 .f32 := broadcastInDim S128 ![] bcast_S_S128 main_cst
  let main_v1 : IVec S128 1 := cmpf .oge main_arg5 main_v0
  let main_v2 : FVec F S128 .f32 := Host.absf main_arg5
  let main_cst_0 : FVec F S_ .f32 := constant S_ .f32 0x7F800000#32
  let main_v3 : FVec F S128 .f32 := broadcastInDim S128 ![] bcast_S_S128 main_cst_0
  let main_v4 : IVec S128 1 := cmpf .olt main_v2 main_v3
  let main_v5 : IVec S128x1 1 := broadcastInDim S128x1 ![0] bcast_S128_S128x1_0 main_v1
  let main_v6 : FVec F S128x128 .f32 := Host.absf main_arg3
  let main_cst_1 : FVec F S_ .f32 := constant S_ .f32 0x7F800000#32
  let main_v7 : FVec F S128x128 .f32 := broadcastInDim S128x128 ![] bcast_S_S128x128 main_cst_1
  let main_v8 : IVec S128x128 1 := cmpf .olt main_v6 main_v7
  let main_v9 : IVec S128x128 1 := broadcastInDim S128x128 ![0, 1] bcast_S128x1_S128x128_0_1 main_v5
  let main_v10 : IVec S128x128 1 := ori main_v9 main_v8
  let main_cst_2 : FVec F S_ .f32 := constant S_ .f32 0x7F800000#32
  let main_v11 : FVec F S_ .f32 := (fun x v => Host.reduce FloatOps.minimumf x v reducesTo_S128_S_d0 h_S_) main_arg5 main_cst_2
  let main_cst_3 : FVec F S_ .f32 := constant S_ .f32 0x00000000#32
  let main_v12 : IVec S_ 1 := cmpf .oge main_v11 main_cst_3
  let main_v13 : FVec F S8x128x20000 .f32 := Host.absf main_arg0
  let main_cst_4 : FVec F S_ .f32 := constant S_ .f32 0x7F800000#32
  let main_v14 : FVec F S8x128x20000 .f32 := broadcastInDim S8x128x20000 ![] bcast_S_S8x128x20000 main_cst_4
  let main_v15 : IVec S8x128x20000 1 := cmpf .olt main_v13 main_v14
  let main_v16 : IVec S8x128x20000 1 := broadcastInDim S8x128x20000 ![] bcast_S_S8x128x20000 main_v12
  let main_v17 : IVec S8x128x20000 1 := ori main_v16 main_v15
  (main_v4, main_v10, main_v17)
-- ==== Kernel.lean ====
abbrev S8x128x20000 : Shape := ⟨3, ![8, 128, 20000]⟩
abbrev S8x20000x2 : Shape := ⟨3, ![8, 20000, 2]⟩
abbrev S8x20000x6 : Shape := ⟨3, ![8, 20000, 6]⟩
abbrev S128x128 : Shape := ⟨2, ![128, 128]⟩
abbrev S128 : Shape := ⟨1, ![128]⟩
abbrev S18x128 : Shape := ⟨2, ![18, 128]⟩
abbrev S18 : Shape := ⟨1, ![18]⟩
abbrev S7x128 : Shape := ⟨2, ![7, 128]⟩
abbrev S7 : Shape := ⟨1, ![7]⟩
abbrev S128x1 : Shape := ⟨2, ![128, 1]⟩
abbrev S8x6x20000 : Shape := ⟨3, ![8, 6, 20000]⟩
abbrev S18x1 : Shape := ⟨2, ![18, 1]⟩
abbrev S7x1 : Shape := ⟨2, ![7, 1]⟩
abbrev S8x18x20000 : Shape := ⟨3, ![8, 18, 20000]⟩
abbrev S8x1x20000 : Shape := ⟨3, ![8, 1, 20000]⟩
abbrev S1x128x20000 : Shape := ⟨3, ![1, 128, 20000]⟩
abbrev S1x6x20000 : Shape := ⟨3, ![1, 6, 20000]⟩
abbrev S1x18x20000 : Shape := ⟨3, ![1, 18, 20000]⟩
abbrev S1x1x20000 : Shape := ⟨3, ![1, 1, 20000]⟩
abbrev S128x20000 : Shape := ⟨2, ![128, 20000]⟩
abbrev S18x20000 : Shape := ⟨2, ![18, 20000]⟩
abbrev S7x20000 : Shape := ⟨2, ![7, 20000]⟩
abbrev S1x20000 : Shape := ⟨2, ![1, 20000]⟩
abbrev S6x20000 : Shape := ⟨2, ![6, 20000]⟩
abbrev S8x20000x18 : Shape := ⟨3, ![8, 20000, 18]⟩
abbrev S8x20000 : Shape := ⟨2, ![8, 20000]⟩

abbrev nBuf : Space → Nat
  | .hbm => 26
  | .vmem => 16
  | .smem => 0
  | _ => 0

abbrev bufTy : (tb : Table) → Fin (tcTables nBuf tb) → BufTy
  | .hbm, ⟨0, _⟩ => ⟨S8x128x20000, .f32⟩
  | .hbm, ⟨1, _⟩ => ⟨S8x20000x2, .f32⟩
  | .hbm, ⟨2, _⟩ => ⟨S8x20000x6, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S18x128, .f32⟩
  | .hbm, ⟨8, _⟩ => ⟨S18, .f32⟩
  | .hbm, ⟨9, _⟩ => ⟨S7x128, .f32⟩
  | .hbm, ⟨10, _⟩ => ⟨S7, .f32⟩
  | .hbm, ⟨11, _⟩ => ⟨S128x1, .f32⟩
  | .hbm, ⟨12, _⟩ => ⟨S128x128, .f32⟩
  | .hbm, ⟨13, _⟩ => ⟨S128x128, .f32⟩
  | .hbm, ⟨14, _⟩ => ⟨S128, .f32⟩
  | .hbm, ⟨15, _⟩ => ⟨S128, .f32⟩
  | .hbm, ⟨16, _⟩ => ⟨S128x1, .f32⟩
  | .hbm, ⟨17, _⟩ => ⟨S8x6x20000, .f32⟩
  | .hbm, ⟨18, _⟩ => ⟨S18x1, .f32⟩
  | .hbm, ⟨19, _⟩ => ⟨S7x1, .f32⟩
  | .hbm, ⟨20, _⟩ => ⟨S8x18x20000, .f32⟩
  | .hbm, ⟨21, _⟩ => ⟨S8x1x20000, .f32⟩
  | .hbm, ⟨22, _⟩ => ⟨S8x6x20000, .f32⟩
  | .hbm, ⟨23, _⟩ => ⟨S8x20000x18, .f32⟩
  | .hbm, ⟨24, _⟩ => ⟨S8x20000x6, .f32⟩
  | .hbm, ⟨25, _⟩ => ⟨S8x20000, .f32⟩
  | .local _ .vmem, ⟨0, _⟩ => ⟨S1x128x20000, .f32⟩
  | .local _ .vmem, ⟨1, _⟩ => ⟨S1x128x20000, .f32⟩
  | .local _ .vmem, ⟨2, _⟩ => ⟨S1x6x20000, .f32⟩
  | .local _ .vmem, ⟨3, _⟩ => ⟨S1x6x20000, .f32⟩
  | .local _ .vmem, ⟨4, _⟩ => ⟨S128x128, .f32⟩
  | .local _ .vmem, ⟨5, _⟩ => ⟨S128x1, .f32⟩
  | .local _ .vmem, ⟨6, _⟩ => ⟨S18x128, .f32⟩
  | .local _ .vmem, ⟨7, _⟩ => ⟨S18x1, .f32⟩
  | .local _ .vmem, ⟨8, _⟩ => ⟨S7x128, .f32⟩
  | .local _ .vmem, ⟨9, _⟩ => ⟨S7x1, .f32⟩
  | .local _ .vmem, ⟨10, _⟩ => ⟨S1x18x20000, .f32⟩
  | .local _ .vmem, ⟨11, _⟩ => ⟨S1x18x20000, .f32⟩
  | .local _ .vmem, ⟨12, _⟩ => ⟨S1x1x20000, .f32⟩
  | .local _ .vmem, ⟨13, _⟩ => ⟨S1x1x20000, .f32⟩
  | .local _ .vmem, ⟨14, _⟩ => ⟨S1x6x20000, .f32⟩
  | .local _ .vmem, ⟨15, _⟩ => ⟨S1x6x20000, .f32⟩
  | _, _ => ⟨S8x128x20000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9_0 : Ref sig .tc := ⟨.hbm, 20, rfl⟩
abbrev main_v9_1 : Ref sig .tc := ⟨.hbm, 21, rfl⟩
abbrev main_v9_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x128x20000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x20000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S18x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S18x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S7x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S7x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x18x20000 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x20000 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x6x20000 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S8x128x20000 : Shape := ⟨3, ![8, 128, 20000]⟩
abbrev S8x20000x2 : Shape := ⟨3, ![8, 20000, 2]⟩
abbrev S8x20000x6 : Shape := ⟨3, ![8, 20000, 6]⟩
abbrev S128x128 : Shape := ⟨2, ![128, 128]⟩
abbrev S128 : Shape := ⟨1, ![128]⟩
abbrev S18x128 : Shape := ⟨2, ![18, 128]⟩
abbrev S18 : Shape := ⟨1, ![18]⟩
abbrev S7x128 : Shape := ⟨2, ![7, 128]⟩
abbrev S7 : Shape := ⟨1, ![7]⟩
abbrev S8x20000x128 : Shape := ⟨3, ![8, 20000, 128]⟩
abbrev S1x128x1 : Shape := ⟨3, ![1, 128, 1]⟩
abbrev S_ : Shape := ⟨0, ![]⟩
abbrev S8x20000x18 : Shape := ⟨3, ![8, 20000, 18]⟩
abbrev S8x18x20000 : Shape := ⟨3, ![8, 18, 20000]⟩
abbrev S1x18x1 : Shape := ⟨3, ![1, 18, 1]⟩
abbrev S8x20000x7 : Shape := ⟨3, ![8, 20000, 7]⟩
abbrev S8x7x20000 : Shape := ⟨3, ![8, 7, 20000]⟩
abbrev S1x7x1 : Shape := ⟨3, ![1, 7, 1]⟩
abbrev S8x20000x1 : Shape := ⟨3, ![8, 20000, 1]⟩
abbrev S8x20000 : Shape := ⟨2, ![8, 20000]⟩

abbrev nBuf : Space → Nat
  | .hbm => 41
  | .vmem => 0
  | .smem => 0
  | _ => 0

abbrev bufTy : (tb : Table) → Fin (tcTables nBuf tb) → BufTy
  | .hbm, ⟨0, _⟩ => ⟨S8x128x20000, .f32⟩
  | .hbm, ⟨1, _⟩ => ⟨S8x20000x2, .f32⟩
  | .hbm, ⟨2, _⟩ => ⟨S8x20000x6, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S18x128, .f32⟩
  | .hbm, ⟨8, _⟩ => ⟨S18, .f32⟩
  | .hbm, ⟨9, _⟩ => ⟨S7x128, .f32⟩
  | .hbm, ⟨10, _⟩ => ⟨S7, .f32⟩
  | .hbm, ⟨11, _⟩ => ⟨S8x20000x128, .f32⟩
  | .hbm, ⟨12, _⟩ => ⟨S8x128x20000, .f32⟩
  | .hbm, ⟨13, _⟩ => ⟨S1x128x1, .f32⟩
  | .hbm, ⟨14, _⟩ => ⟨S8x128x20000, .f32⟩
  | .hbm, ⟨15, _⟩ => ⟨S8x128x20000, .f32⟩
  | .hbm, ⟨16, _⟩ => ⟨S1x128x1, .f32⟩
  | .hbm, ⟨17, _⟩ => ⟨S8x128x20000, .f32⟩
  | .hbm, ⟨18, _⟩ => ⟨S8x128x20000, .f32⟩
  | .hbm, ⟨19, _⟩ => ⟨S1x128x1, .f32⟩
  | .hbm, ⟨20, _⟩ => ⟨S8x128x20000, .f32⟩
  | .hbm, ⟨21, _⟩ => ⟨S8x128x20000, .f32⟩
  | .hbm, ⟨22, _⟩ => ⟨S_, .f32⟩
  | .hbm, ⟨23, _⟩ => ⟨S8x128x20000, .f32⟩
  | .hbm, ⟨24, _⟩ => ⟨S8x128x20000, .f32⟩
  | .hbm, ⟨25, _⟩ => ⟨S8x20000x18, .f32⟩
  | .hbm, ⟨26, _⟩ => ⟨S8x18x20000, .f32⟩
  | .hbm, ⟨27, _⟩ => ⟨S1x18x1, .f32⟩
  | .hbm, ⟨28, _⟩ => ⟨S8x18x20000, .f32⟩
  | .hbm, ⟨29, _⟩ => ⟨S8x18x20000, .f32⟩
  | .hbm, ⟨30, _⟩ => ⟨S8x20000x7, .f32⟩
  | .hbm, ⟨31, _⟩ => ⟨S8x7x20000, .f32⟩
  | .hbm, ⟨32, _⟩ => ⟨S1x7x1, .f32⟩
  | .hbm, ⟨33, _⟩ => ⟨S8x7x20000, .f32⟩
  | .hbm, ⟨34, _⟩ => ⟨S8x7x20000, .f32⟩
  | .hbm, ⟨35, _⟩ => ⟨S8x20000x18, .f32⟩
  | .hbm, ⟨36, _⟩ => ⟨S8x20000x7, .f32⟩
  | .hbm, ⟨37, _⟩ => ⟨S8x20000x1, .f32⟩
  | .hbm, ⟨38, _⟩ => ⟨S8x20000, .f32⟩
  | .hbm, ⟨39, _⟩ => ⟨S8x20000x6, .f32⟩
  | .hbm, ⟨40, _⟩ => ⟨S8x20000x6, .f32⟩
  | _, _ => ⟨S8x128x20000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_call0_cst : Ref sig .tc := ⟨.hbm, 22, rfl⟩
abbrev main_call0_v0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Proof.Distrib.lean ====
/- Scaling a weighted sum on the extended reals: where a scale may be moved inside the sum and where it may not.
   Multiplication does not distribute over addition on the extended reals in general (`(1 + -1) * ⊤ = 0` while
   `⊤ + -⊤ = ⊥`), so the conditions below are needed. -/
module

public import Mathlib.Data.EReal.Inv
public import Mathlib.Algebra.BigOperators.Ring.Finset
public import Mathlib.Tactic.Ring

@[expose] public section

open scoped BigOperators

namespace Cert.Fold

/-- An extended real below `⊤` in absolute value is neither infinity. -/
theorem finite_of_abs_lt (x : EReal) (h : max x (-x) < ⊤) : x ≠ ⊤ ∧ x ≠ ⊥ := by
  constructor
  · rintro rfl; simp at h
  · rintro rfl; simp at h

/-- A scale that is nonnegative and not `⊤` moves inside any finite sum of extended reals. -/
theorem sum_mul_of_nonneg {ι : Type*} (s : Finset ι) (g : ι → EReal) (c : EReal) (h0 : 0 ≤ c) (ht : c ≠ ⊤) :
    (∑ i ∈ s, g i) * c = ∑ i ∈ s, g i * c := by
  classical
  induction s using Finset.induction_on with
  | empty => simp
  | insert a s ha ih =>
    rw [Finset.sum_insert ha, Finset.sum_insert ha, EReal.right_distrib_of_nonneg_of_ne_top h0 ht, ih]

/-- A finite sum of real numbers, taken on the extended reals, is the real sum. -/
theorem coe_sum_real {ι : Type*} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- A real scale distributes over the sum of a real number and any extended real. -/
theorem coe_add_mul_coe (s c : ℝ) (b : EReal) : ((s : EReal) + b) * c = s * c + b * c := by
  induction b with
  | coe b => rw [← EReal.coe_add, ← EReal.coe_mul, ← EReal.coe_mul, ← EReal.coe_mul, ← EReal.coe_add, add_mul]
  | top =>
    rw [EReal.coe_add_top, ← EReal.coe_mul]
    rcases lt_trichotomy c 0 with h | rfl | h
    · rw [EReal.top_mul_coe_of_neg h, EReal.add_bot]
    · simp
    · rw [EReal.top_mul_coe_of_pos h, EReal.coe_add_top]
  | bot =>
    rw [EReal.add_bot, ← EReal.coe_mul]
    rcases lt_trichotomy c 0 with h | rfl | h
    · rw [EReal.bot_mul_coe_of_neg h, EReal.coe_add_top]
    · simp
    · rw [EReal.bot_mul_coe_of_pos h, EReal.add_bot]

/-- Scaling the weights and the offset of an affine form beforehand, or scaling its value afterwards, gives the same
    extended real when the scale is finite and is nonnegative or the weights and what they
    weigh are finite. -/
theorem affine_scale {ι : Type*} [Fintype ι] (w f : ι → EReal) (b c d : EReal) (hc : c ≠ ⊤ ∧ c ≠ ⊥)
    (h : 0 ≤ c ∨ ((∀ i, w i ≠ ⊤ ∧ w i ≠ ⊥) ∧ ∀ i, f i ≠ ⊤ ∧ f i ≠ ⊥)) :
    ∑ i, w i * c * f i + (b * c + d) = (∑ i, f i * w i + b) * c + d := by
  rw [← add_assoc]
  congr 1
  rcases h with h0 | ⟨hw, hf⟩
  · rw [EReal.right_distrib_of_nonneg_of_ne_top h0 hc.1, sum_mul_of_nonneg _ _ _ h0 hc.1]
    congr 1
    refine Finset.sum_congr rfl fun i _ => ?_
    rw [mul_comm (f i), mul_right_comm]
  · lift c to ℝ using hc
    have ew : w = fun i => ((w i).toReal : EReal) := funext fun i => (EReal.coe_toReal (hw i).1 (hw i).2).symm
    have ef : f = fun i => ((f i).toReal : EReal) := funext fun i => (EReal.coe_toReal (hf i).1 (hf i).2).symm
    rw [ew, ef]
    simp only [← EReal.coe_mul, ← coe_sum_real]
    rw [coe_add_mul_coe, ← EReal.coe_mul, Finset.sum_mul]
    refine congrArg (fun x : ℝ => (x : EReal) + b * c) ?_
    exact Finset.sum_congr rfl fun i _ => by ring

end Cert.Fold

end
-- ==== Proof.Pre.lean ====
/- The precondition `tame`, read element by element on the extended reals. -/
module

public import proofs.«01_k».proof.Pre_tame
public import proofs.«01_k».proof.Proof.Distrib
public import Idealize.ShloMosaic.Lib.Pointwise
public import Idealize.ShloMosaic.Lib.Pipeline.Value

@[expose] public section

noncomputable section

namespace Cert.Pre_tame

open Idealize.ShloMosaic

/-- The shape facts the precondition's operations take. -/
theorem shapeFacts : Facts where
  bcast_S_S128 := by decide
  bcast_S128_S128x1_0 := by decide
  bcast_S_S128x128 := by decide
  bcast_S128x1_S128x128_0_1 := by decide
  reducesTo_S128_S_d0 := by decide
  h_S_ := by decide
  bcast_S_S8x128x20000 := by decide

variable [Facts]

/-- The 32-bit word of positive infinity denotes `⊤`. -/
theorem ofBits_inf : Ideal.ofBits .f32 0x7F800000#32 = ⊤ := by
  simp [Ideal.ofBits, Ideal.ieee]

/-- Where `tame` holds, every scale is finite; and a channel's scale is nonnegative, or the channel's weights and
    all the features are finite. -/
theorem tame_apply (x0 : FVec Ideal S8x128x20000 .f32) (x1 : FVec Ideal S8x20000x2 .f32) (x2 : FVec Ideal S8x20000x6 .f32)
    (x3 : FVec Ideal S128x128 .f32) (x4 x5 x6 : FVec Ideal S128 .f32) (x7 : FVec Ideal S18x128 .f32) (x8 : FVec Ideal S18 .f32)
    (x9 : FVec Ideal S7x128 .f32) (x10 : FVec Ideal S7 .f32)
    (h1 : (fn x0 x1 x2 x3 x4 x5 x6 x7 x8 x9 x10).1 = fun _ => 1#1)
    (h2 : (fn x0 x1 x2 x3 x4 x5 x6 x7 x8 x9 x10).2.1 = fun _ => 1#1)
    (h3 : (fn x0 x1 x2 x3 x4 x5 x6 x7 x8 x9 x10).2.2 = fun _ => 1#1) (o : Fin 128) :
    (x5 (ix1 o) ≠ (⊤ : EReal) ∧ x5 (ix1 o) ≠ (⊥ : EReal)) ∧
      ((0 : EReal) ≤ x5 (ix1 o) ∨ ((∀ k : Fin 128, x3 (ix2 o k) ≠ (⊤ : EReal) ∧ x3 (ix2 o k) ≠ (⊥ : EReal))
        ∧ ∀ (b : Fin 8) (k : Fin 128) (n : Fin 20000), x0 (ix3 b k n) ≠ (⊤ : EReal) ∧ x0 (ix3 b k n) ≠ (⊥ : EReal))) := by
  have e1 := congrFun h1 (ix1 o)
  have e2 := fun k : Fin 128 => congrFun h2 (ix2 o k)
  have e3 := fun (b : Fin 8) (k : Fin 128) (n : Fin 20000) => congrFun h3 (ix3 b k n)
  unfold fn at e1 e2 e3
  pointwise [ofBits_inf] at e1
  pointwise [ofBits_inf] at e2
  pointwise [ofBits_inf] at e3
  have low : ∀ p : Prop, [Decidable p] → BitVec.ofBool (decide p) = 1#1 → p := fun p _ h => by
    by_contra hp
    simp [hp] at h
  have either : ∀ p q : Prop, [Decidable p] → [Decidable q] →
      IntOp.ori (BitVec.ofBool (decide p)) (BitVec.ofBool (decide q)) = 1#1 → p ∨ q := fun p q _ _ h => by
    by_contra hpq
    rw [not_or] at hpq
    simp [hpq.1, hpq.2, IntOp.ori] at h
  refine ⟨Fold.finite_of_abs_lt _ (low _ e1), ?_⟩
  by_cases h0 : (0 : EReal) ≤ x5 (ix1 o)
  · exact .inl h0
  · refine .inr ⟨fun k => Fold.finite_of_abs_lt _ ((either _ _ (e2 k)).resolve_left h0),
      fun b k n => Fold.finite_of_abs_lt _ ((either _ _ (e3 b k n)).resolve_left fun hm => h0 ?_)⟩
    exact (Finset.le_fold_min _).1 hm |>.2 o (Finset.mem_univ o)

end Cert.Pre_tame

end
-- ==== Proof.Block.lean ====
/- What one grid point of the kernel computes from its blocks, element by element on the extended reals. -/
module

public import proofs.«01_k».proof.Proof.Gen.KernelIdeal.Skeleton
public import Idealize.ShloMosaic.Lib.Pointwise
public import Idealize.ShloMosaic.Lib.Pipeline.Value

@[expose] public section

noncomputable section

namespace Cert.KernelIdeal.Block

open Cert.KernelIdeal Cert.KernelIdeal.Gen Idealize.ShloMosaic
open scoped BigOperators

/-- One hidden unit: a weight row against a feature column, plus a bias, cut off below at zero. -/
def unit (w f : Fin 128 → EReal) (b : EReal) : EReal := max (∑ k, w k * f k + b) 0

/-- One output of a head: a weight row against the hidden column, plus a bias. -/
def head (w x : Fin 128 → EReal) (b : EReal) : EReal := ∑ k, w k * x k + b

/-- The hidden block at channel `o`, column `n`. -/
theorem hidden_apply (f : FVec Ideal S1x128x20000 .f32) (w : FVec Ideal S128x128 .f32) (b : FVec Ideal S128x1 .f32)
    (o : Fin 128) (n : Fin 20000) :
    k0_pay3 (F := Ideal) f w b (ix2 o n) = unit (fun k => w (ix2 o k)) (fun k => f (ix3 0 k n)) (b (ix2 o 0)) := by
  unfold k0_pay3 unit
  pointwise [dot_S128x128_S128x20000_S128x20000_1_0_0_1_n_n]

/-- The class-score block at class `o`, column `n`. -/
theorem score_apply (f : FVec Ideal S1x128x20000 .f32) (w : FVec Ideal S128x128 .f32) (b : FVec Ideal S128x1 .f32)
    (wc : FVec Ideal S18x128 .f32) (bc : FVec Ideal S18x1 .f32) (o : Fin 18) (n : Fin 20000) :
    k0_pay4 (F := Ideal) f w b wc bc (ix3 0 o n)
      = head (fun k => wc (ix2 o k)) (fun k => k0_pay3 (F := Ideal) f w b (ix2 k n)) (bc (ix2 o 0)) := by
  unfold k0_pay4 head
  pointwise [dot_S18x128_S128x20000_S18x20000_1_0_0_1_n_n]

/-- The regression block at row `o`, column `n`. -/
theorem reg_apply (f : FVec Ideal S1x128x20000 .f32) (w : FVec Ideal S128x128 .f32) (b : FVec Ideal S128x1 .f32)
    (wr : FVec Ideal S7x128 .f32) (br : FVec Ideal S7x1 .f32) (o : Fin 7) (n : Fin 20000) :
    k0_pay5 (F := Ideal) f w b wr br (ix2 o n)
      = head (fun k => wr (ix2 o k)) (fun k => k0_pay3 (F := Ideal) f w b (ix2 k n)) (br (ix2 o 0)) := by
  unfold k0_pay5 head
  pointwise [dot_S7x128_S128x20000_S7x20000_1_0_0_1_n_n]

/-- The angle block stored is row 0 of the regression block. -/
theorem angle_apply (f : FVec Ideal S1x128x20000 .f32) (w : FVec Ideal S128x128 .f32) (b : FVec Ideal S128x1 .f32)
    (wr : FVec Ideal S7x128 .f32) (br : FVec Ideal S7x1 .f32) (n : Fin 20000) :
    k0_pay1 (F := Ideal) (k0_pay6 (F := Ideal) f w b wr br) (ix3 0 0 n) = k0_pay5 (F := Ideal) f w b wr br (ix2 0 n) := by
  unfold k0_pay1 k0_pay6
  pointwise

/-- The distance block stored is the incoming distance plus rows 1 to 6 of the regression block. -/
theorem distance_apply (r : FVec Ideal S7x20000 .f32) (d : FVec Ideal S1x6x20000 .f32) (o : Fin 6) (n : Fin 20000) :
    k0_pay2 (F := Ideal) r d (ix3 0 o n) = d (ix3 0 o n) + r (ix2 ⟨o.val + 1, by omega⟩ n) := by
  unfold k0_pay2
  pointwise
  simp only [Nat.add_comm 1]

end Cert.KernelIdeal.Block

end
-- ==== Proof.Arrays.lean ====
/- What the kernel's three output arrays hold after the grid has run, as whole-array functions of the arrays the grid
   reads: point `t` of the grid writes batch `t` of each. -/
module

public import proofs.«01_k».proof.Proof.Gen.KernelIdeal.Frame
public import proofs.«01_k».proof.Proof.Block
public import Idealize.ShloMosaic.Lib.Pipeline.Value

@[expose] public section

noncomputable section

namespace Cert.KernelIdeal.Block

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-! ## The arrays the grid reads -/

/-- The features. -/
abbrev feat (c : Dev nD) : FVec Ideal S8x128x20000 .f32 := V m c main_arg0
/-- The distances, columns last. -/
abbrev dist (c : Dev nD) : FVec Ideal S8x6x20000 .f32 := V m c main_v6
/-- The scaled shared weights. -/
abbrev w1 (c : Dev nD) : FVec Ideal S128x128 .f32 := V m c main_v2
/-- The scaled shared bias. -/
abbrev b1 (c : Dev nD) : FVec Ideal S128x1 .f32 := V m c main_v5
/-- The class weights. -/
abbrev wc (c : Dev nD) : FVec Ideal S18x128 .f32 := V m c main_arg7
/-- The class bias. -/
abbrev bc (c : Dev nD) : FVec Ideal S18x1 .f32 := V m c main_v7
/-- The regression weights. -/
abbrev wr (c : Dev nD) : FVec Ideal S7x128 .f32 := V m c main_arg9
/-- The regression bias. -/
abbrev br (c : Dev nD) : FVec Ideal S7x1 .f32 := V m c main_v8

/-! ## The blocks the grid reads, at an index -/

/-- The number of points of the grid is the number of batches. -/
theorem points : cfg0.N = 8 := N_0

/-- The batch that point `t` works on. -/
abbrev batch (t : Fin cfg0.N) : Fin 8 := ⟨t.val, by have := t.isLt; have := points; omega⟩

theorem idx0 : ∀ t : Fin grid0.N, win0_0.index t 0 = t.val ∧ win0_0.index t 1 = 0 ∧ win0_0.index t 2 = 0 := by decide +kernel
theorem idx1 : ∀ t : Fin grid0.N, win0_1.index t 0 = t.val ∧ win0_1.index t 1 = 0 ∧ win0_1.index t 2 = 0 := by decide +kernel
theorem idx2 : ∀ t : Fin grid0.N, win0_2.index t 0 = 0 ∧ win0_2.index t 1 = 0 := by decide +kernel
theorem idx3 : ∀ t : Fin grid0.N, win0_3.index t 0 = 0 ∧ win0_3.index t 1 = 0 := by decide +kernel
theorem idx4 : ∀ t : Fin grid0.N, win0_4.index t 0 = 0 ∧ win0_4.index t 1 = 0 := by decide +kernel
theorem idx5 : ∀ t : Fin grid0.N, win0_5.index t 0 = 0 ∧ win0_5.index t 1 = 0 := by decide +kernel
theorem idx6 : ∀ t : Fin grid0.N, win0_6.index t 0 = 0 ∧ win0_6.index t 1 = 0 := by decide +kernel
theorem idx7 : ∀ t : Fin grid0.N, win0_7.index t 0 = 0 ∧ win0_7.index t 1 = 0 := by decide +kernel
theorem idx8 : ∀ t : Fin grid0.N, win0_8.index t 0 = t.val ∧ win0_8.index t 1 = 0 ∧ win0_8.index t 2 = 0 := by decide +kernel
theorem idx9 : ∀ t : Fin grid0.N, win0_9.index t 0 = t.val ∧ win0_9.index t 1 = 0 ∧ win0_9.index t 2 = 0 := by decide +kernel
theorem idx10 : ∀ t : Fin grid0.N, win0_10.index t 0 = t.val ∧ win0_10.index t 1 = 0 ∧ win0_10.index t 2 = 0 := by decide +kernel

/-- Point `t`'s feature block is batch `t` of the features. -/
theorem iblk0_apply (c : Dev nD) (t : Fin cfg0.N) (k : Fin 128) (n : Fin 20000) :
    (iblk m c 0 t : FVec Ideal S1x128x20000 .f32) (ix3 0 k n) = feat m c (ix3 (batch t) k n) := by
  have hi := idx0 t
  unfold iblk
  rw [View.read_apply]
  refine congrArg (feat m c) (funext fun a => Fin.ext ?_)
  match a with
  | ⟨0, _⟩ => show win0_0.index t 0 * 1 + 1 * 0 = t.val; rw [hi.1]; omega
  | ⟨1, _⟩ => show win0_0.index t 1 * 128 + 1 * k.val = k.val; rw [hi.2.1]; omega
  | ⟨2, _⟩ => show win0_0.index t 2 * 20000 + 1 * n.val = n.val; rw [hi.2.2]; omega

/-- Point `t`'s distance block is batch `t` of the distances. -/
theorem iblk1_apply (c : Dev nD) (t : Fin cfg0.N) (k : Fin 6) (n : Fin 20000) :
    (iblk m c 1 t : FVec Ideal S1x6x20000 .f32) (ix3 0 k n) = dist m c (ix3 (batch t) k n) := by
  have hi := idx1 t
  unfold iblk
  rw [View.read_apply]
  refine congrArg (dist m c) (funext fun a => Fin.ext ?_)
  match a with
  | ⟨0, _⟩ => show win0_1.index t 0 * 1 + 1 * 0 = t.val; rw [hi.1]; omega
  | ⟨1, _⟩ => show win0_1.index t 1 * 6 + 1 * k.val = k.val; rw [hi.2.1]; omega
  | ⟨2, _⟩ => show win0_1.index t 2 * 20000 + 1 * n.val = n.val; rw [hi.2.2]; omega

/-- Every point's shared weight block is the whole array … -/
theorem iblk2_eq (c : Dev nD) (t : Fin cfg0.N) : (iblk m c 2 t : FVec Ideal S128x128 .f32) = w1 m c := by
  have hi := idx2 t
  funext j
  unfold iblk
  rw [View.read_apply]
  refine congrArg (w1 m c) (funext fun a => Fin.ext ?_)
  match a with
  | ⟨0, _⟩ => show win0_2.index t 0 * 128 + 1 * (j 0).val = (j 0).val; rw [hi.1]; omega
  | ⟨1, _⟩ => show win0_2.index t 1 * 128 + 1 * (j 1).val = (j 1).val; rw [hi.2]; omega

/-- … and so are its shared bias block, … -/
theorem iblk3_eq (c : Dev nD) (t : Fin cfg0.N) : (iblk m c 3 t : FVec Ideal S128x1 .f32) = b1 m c := by
  have hi := idx3 t
  funext j
  unfold iblk
  rw [View.read_apply]
  refine congrArg (b1 m c) (funext fun a => Fin.ext ?_)
  match a with
  | ⟨0, _⟩ => show win0_3.index t 0 * 128 + 1 * (j 0).val = (j 0).val; rw [hi.1]; omega
  | ⟨1, _⟩ => show win0_3.index t 1 * 1 + 1 * (j 1).val = (j 1).val; rw [hi.2]; omega

/-- … its class weight block, … -/
theorem iblk4_eq (c : Dev nD) (t : Fin cfg0.N) : (iblk m c 4 t : FVec Ideal S18x128 .f32) = wc m c := by
  have hi := idx4 t
  funext j
  unfold iblk
  rw [View.read_apply]
  refine congrArg (wc m c) (funext fun a => Fin.ext ?_)
  match a with
  | ⟨0, _⟩ => show win0_4.index t 0 * 18 + 1 * (j 0).val = (j 0).val; rw [hi.1]; omega
  | ⟨1, _⟩ => show win0_4.index t 1 * 128 + 1 * (j 1).val = (j 1).val; rw [hi.2]; omega

/-- … its class bias block, … -/
theorem iblk5_eq (c : Dev nD) (t : Fin cfg0.N) : (iblk m c 5 t : FVec Ideal S18x1 .f32) = bc m c := by
  have hi := idx5 t
  funext j
  unfold iblk
  rw [View.read_apply]
  refine congrArg (bc m c) (funext fun a => Fin.ext ?_)
  match a with
  | ⟨0, _⟩ => show win0_5.index t 0 * 18 + 1 * (j 0).val = (j 0).val; rw [hi.1]; omega
  | ⟨1, _⟩ => show win0_5.index t 1 * 1 + 1 * (j 1).val = (j 1).val; rw [hi.2]; omega

/-- … its regression weight block … -/
theorem iblk6_eq (c : Dev nD) (t : Fin cfg0.N) : (iblk m c 6 t : FVec Ideal S7x128 .f32) = wr m c := by
  have hi := idx6 t
  funext j
  unfold iblk
  rw [View.read_apply]
  refine congrArg (wr m c) (funext fun a => Fin.ext ?_)
  match a with
  | ⟨0, _⟩ => show win0_6.index t 0 * 7 + 1 * (j 0).val = (j 0).val; rw [hi.1]; omega
  | ⟨1, _⟩ => show win0_6.index t 1 * 128 + 1 * (j 1).val = (j 1).val; rw [hi.2]; omega

/-- … and its regression bias block. -/
theorem iblk7_eq (c : Dev nD) (t : Fin cfg0.N) : (iblk m c 7 t : FVec Ideal S7x1 .f32) = br m c := by
  have hi := idx7 t
  funext j
  unfold iblk
  rw [View.read_apply]
  refine congrArg (br m c) (funext fun a => Fin.ext ?_)
  match a with
  | ⟨0, _⟩ => show win0_7.index t 0 * 7 + 1 * (j 0).val = (j 0).val; rw [hi.1]; omega
  | ⟨1, _⟩ => show win0_7.index t 1 * 1 + 1 * (j 1).val = (j 1).val; rw [hi.2]; omega

/-! ## The output arrays -/

/-- The hidden column of batch `b`, column `n`. -/
def hid (c : Dev nD) (b : Fin 8) (n : Fin 20000) (k : Fin 128) : EReal :=
  unit (fun j => w1 m c (ix2 k j)) (fun j => feat m c (ix3 b j n)) (b1 m c (ix2 k 0))

/-- Row `o` of the regression head at batch `b`, column `n`. -/
def regAt (c : Dev nD) (b : Fin 8) (o : Fin 7) (n : Fin 20000) : EReal :=
  head (fun k => wr m c (ix2 o k)) (hid m c b n) (br m c (ix2 o 0))

/-- The class scores, columns last. -/
def scores (c : Dev nD) : FVec Ideal S8x18x20000 .f32 := fun i =>
  head (fun k => wc m c (ix2 (i 1) k)) (hid m c (i 0) (i 2)) (bc m c (ix2 (i 1) 0))

/-- The angles. -/
def angles (c : Dev nD) : FVec Ideal S8x1x20000 .f32 := fun i => regAt m c (i 0) 0 (i 2)

/-- The refined distances, columns last. -/
def dists (c : Dev nD) : FVec Ideal S8x6x20000 .f32 := fun i =>
  dist m c i + regAt m c (i 0) ⟨(i 1).val + 1, by have : (i 1).val < 6 := (i 1).isLt; omega⟩ (i 2)

/-- Point `t`'s hidden block is batch `t`'s hidden columns. -/
theorem hidden_blk (c : Dev nD) (t : Fin cfg0.N) (k : Fin 128) (n : Fin 20000) :
    k0_pay3 (F := Ideal) (iblk m c 0 t) (w1 m c) (b1 m c) (ix2 k n) = hid m c (batch t) n k := by
  rw [hidden_apply]
  unfold hid
  congr 1
  exact funext fun j => iblk0_apply m c t j n

/-- Point `t`'s regression block is batch `t`'s regression rows. -/
theorem reg_blk (c : Dev nD) (t : Fin cfg0.N) (o : Fin 7) (n : Fin 20000) :
    k0_pay5 (F := Ideal) (iblk m c 0 t) (w1 m c) (b1 m c) (wr m c) (br m c) (ix2 o n) = regAt m c (batch t) o n := by
  rw [reg_apply]
  unfold regAt
  congr 1
  exact funext fun k => hidden_blk m c t k n

theorem hz3 : (![0, 0, 0] : Fin 3 → Nat) = fun _ => 0 := funext fun a => by fin_cases a <;> rfl
theorem hz2 : (![0, 0] : Fin 2 → Nat) = fun _ => 0 := funext fun a => by fin_cases a <;> rfl

/-- Point `t` writes back batch `t` of the class scores. -/
theorem flushed8 (c : Dev nD) (t : Fin cfg0.N) :
    (dats m 0 c).flushed 8 t = (win0_8.blk t).view.read (Elt Ideal) (scores m c) := by
  show (cfg0.win 8).cut (grid0.coords t) ((dats m 0 c).after 8 t) = _
  rw [after0_8]
  unfold out0_8
  rw [View.canon_unit_zero hz3, View.ld_unit_zero hz3, View.ld_unit_zero hz2, View.ld_unit_zero hz2, View.ld_unit_zero hz2,
    View.ld_unit_zero hz2, iblk2_eq, iblk3_eq, iblk4_eq, iblk5_eq]
  have hi := idx8 t
  funext j
  obtain ⟨z, o, n, rfl⟩ : ∃ (z : Fin 1) (o : Fin 18) (n : Fin 20000), j = ix3 z o n := ⟨j 0, j 1, j 2, eq_ix3 j⟩
  obtain rfl : z = 0 := Subsingleton.elim _ _
  rw [View.read_apply]
  refine (score_apply _ _ _ _ _ o n).trans ?_
  have e : (win0_8.blk t).view.emb (ix3 0 o n) = ix3 (batch t) o n := by
    funext a
    apply Fin.ext
    match a with
    | ⟨0, _⟩ => show win0_8.index t 0 * 1 + 1 * 0 = t.val; rw [hi.1]; omega
    | ⟨1, _⟩ => show win0_8.index t 1 * 18 + 1 * o.val = o.val; rw [hi.2.1]; omega
    | ⟨2, _⟩ => show win0_8.index t 2 * 20000 + 1 * n.val = n.val; rw [hi.2.2]; omega
  rw [e]
  show head _ _ _ = head _ _ _
  congr 1
  exact funext fun k => hidden_blk m c t k n

/-- Point `t` writes back batch `t` of the angles. -/
theorem flushed9 (c : Dev nD) (t : Fin cfg0.N) :
    (dats m 0 c).flushed 9 t = (win0_9.blk t).view.read (Elt Ideal) (angles m c) := by
  show (cfg0.win 9).cut (grid0.coords t) ((dats m 0 c).after 9 t) = _
  rw [after0_9]
  unfold out0_9
  rw [View.canon_unit_zero hz3, View.ld_unit_zero hz3, View.ld_unit_zero hz2, View.ld_unit_zero hz2, View.ld_unit_zero hz2,
    View.ld_unit_zero hz2, iblk2_eq, iblk3_eq, iblk6_eq, iblk7_eq]
  have hi := idx9 t
  funext j
  obtain ⟨z, o, n, rfl⟩ : ∃ (z : Fin 1) (o : Fin 1) (n : Fin 20000), j = ix3 z o n := ⟨j 0, j 1, j 2, eq_ix3 j⟩
  obtain rfl : z = 0 := Subsingleton.elim _ _
  obtain rfl : o = 0 := Subsingleton.elim _ _
  rw [View.read_apply]
  refine (angle_apply _ _ _ _ _ n).trans ?_
  have e : (win0_9.blk t).view.emb (ix3 0 0 n) = ix3 (batch t) 0 n := by
    funext a
    apply Fin.ext
    match a with
    | ⟨0, _⟩ => show win0_9.index t 0 * 1 + 1 * 0 = t.val; rw [hi.1]; omega
    | ⟨1, _⟩ => show win0_9.index t 1 * 1 + 1 * 0 = 0; rw [hi.2.1]
    | ⟨2, _⟩ => show win0_9.index t 2 * 20000 + 1 * n.val = n.val; rw [hi.2.2]; omega
  rw [e]
  exact reg_blk m c t 0 n

/-- Point `t` writes back batch `t` of the refined distances. -/
theorem flushed10 (c : Dev nD) (t : Fin cfg0.N) :
    (dats m 0 c).flushed 10 t = (win0_10.blk t).view.read (Elt Ideal) (dists m c) := by
  show (cfg0.win 10).cut (grid0.coords t) ((dats m 0 c).after 10 t) = _
  rw [after0_10]
  unfold out0_10
  rw [View.canon_unit_zero hz3, View.ld_unit_zero hz3, View.ld_unit_zero hz2, View.ld_unit_zero hz2, View.ld_unit_zero hz2,
    View.ld_unit_zero hz2, View.ld_unit_zero hz3, iblk2_eq, iblk3_eq, iblk6_eq, iblk7_eq]
  have hi := idx10 t
  funext j
  obtain ⟨z, o, n, rfl⟩ : ∃ (z : Fin 1) (o : Fin 6) (n : Fin 20000), j = ix3 z o n := ⟨j 0, j 1, j 2, eq_ix3 j⟩
  obtain rfl : z = 0 := Subsingleton.elim _ _
  rw [View.read_apply]
  refine (distance_apply _ _ o n).trans ?_
  have e : (win0_10.blk t).view.emb (ix3 0 o n) = ix3 (batch t) o n := by
    funext a
    apply Fin.ext
    match a with
    | ⟨0, _⟩ => show win0_10.index t 0 * 1 + 1 * 0 = t.val; rw [hi.1]; omega
    | ⟨1, _⟩ => show win0_10.index t 1 * 6 + 1 * o.val = o.val; rw [hi.2.1]; omega
    | ⟨2, _⟩ => show win0_10.index t 2 * 20000 + 1 * n.val = n.val; rw [hi.2.2]; omega
  rw [e, iblk1_apply, reg_blk]
  rfl

/-! ## The batches tile the output arrays -/

/-- An index of the class-score array is in point `t`'s block exactly when it is of batch `t`. -/
theorem mem_blk8 (t : Fin cfg0.N) (i : S8x18x20000.Idx) :
    i ∈ ((cfg0.win 8).blk t).view.set ↔ (i 0 : Nat) = t.val := by
  show i ∈ ((View.whole main_v9_0).slice (win0_8.rect t)).set ↔ _
  rw [View.set_slice_whole, Rect.mem_set_unit]
  have hi := idx8 t
  have h1 : (i 1 : Nat) < 18 := (i 1).isLt
  have h2 : (i 2 : Nat) < 20000 := (i 2).isLt
  refine ⟨fun h => ?_, fun h a => ?_⟩
  · have : win0_8.index t 0 * 1 ≤ (i 0 : Nat) ∧ (i 0 : Nat) < win0_8.index t 0 * 1 + 1 := h 0
    rw [hi.1] at this; omega
  · match a with
    | ⟨0, _⟩ => show win0_8.index t 0 * 1 ≤ (i 0 : Nat) ∧ (i 0 : Nat) < win0_8.index t 0 * 1 + 1; rw [hi.1]; omega
    | ⟨1, _⟩ => show win0_8.index t 1 * 18 ≤ (i 1 : Nat) ∧ (i 1 : Nat) < win0_8.index t 1 * 18 + 18; rw [hi.2.1]; omega
    | ⟨2, _⟩ => show win0_8.index t 2 * 20000 ≤ (i 2 : Nat) ∧ (i 2 : Nat) < win0_8.index t 2 * 20000 + 20000; rw [hi.2.2]; omega

/-- The same of the angle array. -/
theorem mem_blk9 (t : Fin cfg0.N) (i : S8x1x20000.Idx) :
    i ∈ ((cfg0.win 9).blk t).view.set ↔ (i 0 : Nat) = t.val := by
  show i ∈ ((View.whole main_v9_1).slice (win0_9.rect t)).set ↔ _
  rw [View.set_slice_whole, Rect.mem_set_unit]
  have hi := idx9 t
  have h1 : (i 1 : Nat) < 1 := (i 1).isLt
  have h2 : (i 2 : Nat) < 20000 := (i 2).isLt
  refine ⟨fun h => ?_, fun h a => ?_⟩
  · have : win0_9.index t 0 * 1 ≤ (i 0 : Nat) ∧ (i 0 : Nat) < win0_9.index t 0 * 1 + 1 := h 0
    rw [hi.1] at this; omega
  · match a with
    | ⟨0, _⟩ => show win0_9.index t 0 * 1 ≤ (i 0 : Nat) ∧ (i 0 : Nat) < win0_9.index t 0 * 1 + 1; rw [hi.1]; omega
    | ⟨1, _⟩ => show win0_9.index t 1 * 1 ≤ (i 1 : Nat) ∧ (i 1 : Nat) < win0_9.index t 1 * 1 + 1; rw [hi.2.1]; omega
    | ⟨2, _⟩ => show win0_9.index t 2 * 20000 ≤ (i 2 : Nat) ∧ (i 2 : Nat) < win0_9.index t 2 * 20000 + 20000; rw [hi.2.2]; omega

/-- The same of the distance array. -/
theorem mem_blk10 (t : Fin cfg0.N) (i : S8x6x20000.Idx) :
    i ∈ ((cfg0.win 10).blk t).view.set ↔ (i 0 : Nat) = t.val := by
  show i ∈ ((View.whole main_v9_2).slice (win0_10.rect t)).set ↔ _
  rw [View.set_slice_whole, Rect.mem_set_unit]
  have hi := idx10 t
  have h1 : (i 1 : Nat) < 6 := (i 1).isLt
  have h2 : (i 2 : Nat) < 20000 := (i 2).isLt
  refine ⟨fun h => ?_, fun h a => ?_⟩
  · have : win0_10.index t 0 * 1 ≤ (i 0 : Nat) ∧ (i 0 : Nat) < win0_10.index t 0 * 1 + 1 := h 0
    rw [hi.1] at this; omega
  · match a with
    | ⟨0, _⟩ => show win0_10.index t 0 * 1 ≤ (i 0 : Nat) ∧ (i 0 : Nat) < win0_10.index t 0 * 1 + 1; rw [hi.1]; omega
    | ⟨1, _⟩ => show win0_10.index t 1 * 6 ≤ (i 1 : Nat) ∧ (i 1 : Nat) < win0_10.index t 1 * 6 + 6; rw [hi.2.1]; omega
    | ⟨2, _⟩ => show win0_10.index t 2 * 20000 ≤ (i 2 : Nat) ∧ (i 2 : Nat) < win0_10.index t 2 * 20000 + 20000; rw [hi.2.2]; omega

/-- After the run the class-score array holds the class scores, … -/
theorem final8 (c : Dev nD) : (dats m 0 c).arrAt 8 cfg0.N = scores m c :=
  (dats m 0 c).arrAt_eq_of_cover 8 (scores m c) (fun t _ => flushed8 m c t) fun i => by
    have h0 : (i 0 : Nat) < 8 := (i 0).isLt
    exact ⟨⟨(i 0 : Nat), by rw [points]; exact h0⟩, flush0_8 _, (mem_blk8 _ i).2 rfl⟩

/-- … the angle array the angles, … -/
theorem final9 (c : Dev nD) : (dats m 0 c).arrAt 9 cfg0.N = angles m c :=
  (dats m 0 c).arrAt_eq_of_cover 9 (angles m c) (fun t _ => flushed9 m c t) fun i => by
    have h0 : (i 0 : Nat) < 8 := (i 0).isLt
    exact ⟨⟨(i 0 : Nat), by rw [points]; exact h0⟩, flush0_9 _, (mem_blk9 _ i).2 rfl⟩

/-- … and the distance array the refined distances. -/
theorem final10 (c : Dev nD) : (dats m 0 c).arrAt 10 cfg0.N = dists m c :=
  (dats m 0 c).arrAt_eq_of_cover 10 (dists m c) (fun t _ => flushed10 m c t) fun i => by
    have h0 : (i 0 : Nat) < 8 := (i 0).isLt
    exact ⟨⟨(i 0 : Nat), by rw [points]; exact h0⟩, flush0_10 _, (mem_blk10 _ i).2 rfl⟩

end Cert.KernelIdeal.Block

end
-- ==== Proof.Spec.lean ====
/- The mathematics of the problem on the extended reals: one hidden column per batch and column of the features, and the
   two linear heads on it. Every array is given by its coordinates. -/
module

public import Idealize.ShloMosaic.PureOps.Ideal
public import Idealize.ShloMosaic.Lib.Pointwise

@[expose] public section

noncomputable section

namespace Cert.Spec

open Idealize.ShloMosaic
open scoped BigOperators

/-- The arguments the results depend on. -/
structure Args where
  /-- the features -/
  feat : FVec Ideal ⟨3, ![8, 128, 20000]⟩ .f32
  /-- the distances to be refined -/
  dist : FVec Ideal ⟨3, ![8, 20000, 6]⟩ .f32
  /-- the shared weights -/
  w1 : FVec Ideal ⟨2, ![128, 128]⟩ .f32
  /-- the shared bias -/
  b1 : FVec Ideal ⟨1, ![128]⟩ .f32
  /-- the normalisation's scale -/
  scale : FVec Ideal ⟨1, ![128]⟩ .f32
  /-- the normalisation's shift -/
  shift : FVec Ideal ⟨1, ![128]⟩ .f32
  /-- the class weights -/
  wc : FVec Ideal ⟨2, ![18, 128]⟩ .f32
  /-- the class bias -/
  bc : FVec Ideal ⟨1, ![18]⟩ .f32
  /-- the regression weights -/
  wr : FVec Ideal ⟨2, ![7, 128]⟩ .f32
  /-- the regression bias -/
  br : FVec Ideal ⟨1, ![7]⟩ .f32

/-- The hidden value of channel `o` at batch `b`, column `n`: a linear form of the features, normalised, cut off below
    at zero. -/
def hidden (A : Args) (b : Fin 8) (n : Fin 20000) (o : Fin 128) : EReal :=
  max ((∑ k : Fin 128, A.feat (ix3 b k n) * A.w1 (ix2 o k) + A.b1 (ix1 o)) * A.scale (ix1 o) + A.shift (ix1 o)) 0

/-- Class `o`'s score at batch `b`, column `n`. -/
def score (A : Args) (b : Fin 8) (n : Fin 20000) (o : Fin 18) : EReal :=
  ∑ k : Fin 128, hidden A b n k * A.wc (ix2 o k) + A.bc (ix1 o)

/-- Regression value `o` at batch `b`, column `n`. -/
def reg (A : Args) (b : Fin 8) (n : Fin 20000) (o : Fin 7) : EReal :=
  ∑ k : Fin 128, hidden A b n k * A.wr (ix2 o k) + A.br (ix1 o)

/-- The first result: the class scores. -/
def scores (A : Args) : FVec Ideal ⟨3, ![8, 20000, 18]⟩ .f32 := fun i => score A (i 0) (i 1) (i 2)

/-- The second result: regression value 0. -/
def angles (A : Args) : FVec Ideal ⟨2, ![8, 20000]⟩ .f32 := fun i => reg A (i 0) (i 1) 0

/-- The third result: the distances plus regression values 1 to 6. -/
def dists (A : Args) : FVec Ideal ⟨3, ![8, 20000, 6]⟩ .f32 := fun i =>
  A.dist i + reg A (i 0) (i 1) ⟨(i 2).val + 1, by have : (i 2).val < 6 := (i 2).isLt; omega⟩

/-- Where the two ways of normalising agree: each scale is finite, and it is nonnegative or its channel's
    weights and the features are finite. -/
def Tame (A : Args) : Prop := ∀ o : Fin 128,
  (A.scale (ix1 o) ≠ (⊤ : EReal) ∧ A.scale (ix1 o) ≠ (⊥ : EReal)) ∧
    ((0 : EReal) ≤ A.scale (ix1 o) ∨ ((∀ k : Fin 128, A.w1 (ix2 o k) ≠ (⊤ : EReal) ∧ A.w1 (ix2 o k) ≠ (⊥ : EReal))
      ∧ ∀ (b : Fin 8) (k : Fin 128) (n : Fin 20000), A.feat (ix3 b k n) ≠ (⊤ : EReal) ∧ A.feat (ix3 b k n) ≠ (⊥ : EReal)))

end Cert.Spec

end
-- ==== Proof.Results.lean ====
/- The kernel's results in terms of its arguments: the arrays the grid reads come from the arguments by scaling,
   transposing and adding unit axes, and the results are the grid's output arrays transposed or reshaped. -/
module

public import proofs.«01_k».proof.Proof.Arrays
public import proofs.«01_k».proof.Proof.Spec
public import proofs.«01_k».proof.Proof.Distrib

@[expose] public section

noncomputable section

namespace Cert.KernelIdeal.Block

open Cert.KernelIdeal Cert.KernelIdeal.Gen Idealize.ShloMosaic Idealize.ShloMosaic.TcCoe Idealize.SL.Sem Idealize.ShloMosaic.StableHlo
open scoped BigOperators

variable (m : (ℓ : Loc nD τ sig) → Buf (Elt Ideal) ℓ)

/-- The arguments of device `c`. -/
abbrev args (c : Dev nD) : Spec.Args where
  feat := m ((c : Thread nD τ).loc main_arg0)
  dist := m ((c : Thread nD τ).loc main_arg2)
  w1 := m ((c : Thread nD τ).loc main_arg3)
  b1 := m ((c : Thread nD τ).loc main_arg4)
  scale := m ((c : Thread nD τ).loc main_arg5)
  shift := m ((c : Thread nD τ).loc main_arg6)
  wc := m ((c : Thread nD τ).loc main_arg7)
  bc := m ((c : Thread nD τ).loc main_arg8)
  wr := m ((c : Thread nD τ).loc main_arg9)
  br := m ((c : Thread nD τ).loc main_arg10)

/-! ## The arrays the grid reads -/

/-- The scaled shared weights as printed. -/
theorem w1_eq (c : Dev nD) : w1 m c = mulf (args m c).w1 (broadcastInDim S128x128 ![0, 1] bcast_S128x1_S128x128_0_1 (broadcastInDim S128x1 ![0] bcast_S128_S128x1_0 (args m c).scale)) := by
  show StableHlo.after (List.flatten [hostOps0]) _ (Proc.devRef .tc main_v2) = _
  simp only [hostOps0, List.flatten_cons, List.flatten_nil, List.append_nil, List.cons_append, List.nil_append]
  after_results <;> rfl

/-- The scaled shared bias as printed. -/
theorem b1_eq (c : Dev nD) : b1 m c = broadcastInDim S128x1 ![0] bcast_S128_S128x1_0 (addf (mulf (args m c).b1 (args m c).scale) (args m c).shift) := by
  show StableHlo.after (List.flatten [hostOps0]) _ (Proc.devRef .tc main_v5) = _
  simp only [hostOps0, List.flatten_cons, List.flatten_nil, List.append_nil, List.cons_append, List.nil_append]
  after_results <;> rfl

/-- The distances as printed. -/
theorem dist_eq (c : Dev nD) : dist m c = transpose S8x6x20000 [0, 2, 1] (args m c).dist transposes_S8x20000x6_S8x6x20000_0_2_1 := by
  show StableHlo.after (List.flatten [hostOps0]) _ (Proc.devRef .tc main_v6) = _
  simp only [hostOps0, List.flatten_cons, List.flatten_nil, List.append_nil, List.cons_append, List.nil_append]
  after_results <;> rfl

/-- The class bias as printed. -/
theorem bc_eq (c : Dev nD) : bc m c = broadcastInDim S18x1 ![0] bcast_S18_S18x1_0 (args m c).bc := by
  show StableHlo.after (List.flatten [hostOps0]) _ (Proc.devRef .tc main_v7) = _
  simp only [hostOps0, List.flatten_cons, List.flatten_nil, List.append_nil, List.cons_append, List.nil_append]
  after_results <;> rfl

/-- The regression bias as printed. -/
theorem br_eq (c : Dev nD) : br m c = broadcastInDim S7x1 ![0] bcast_S7_S7x1_0 (args m c).br := by
  show StableHlo.after (List.flatten [hostOps0]) _ (Proc.devRef .tc main_v8) = _
  simp only [hostOps0, List.flatten_cons, List.flatten_nil, List.append_nil, List.cons_append, List.nil_append]
  after_results <;> rfl

theorem feat_eq (c : Dev nD) : feat m c = (args m c).feat := V_main_arg0 m c
theorem wc_eq (c : Dev nD) : wc m c = (args m c).wc := V_main_arg7 m c
theorem wr_eq (c : Dev nD) : wr m c = (args m c).wr := V_main_arg9 m c

/-- A scaled shared weight. -/
theorem w1_apply (c : Dev nD) (o k : Fin 128) : w1 m c (ix2 o k) = (args m c).w1 (ix2 o k) * (args m c).scale (ix1 o) := by
  rw [w1_eq]
  pointwise

/-- A scaled and shifted shared bias. -/
theorem b1_apply (c : Dev nD) (o : Fin 128) :
    b1 m c (ix2 o 0) = (args m c).b1 (ix1 o) * (args m c).scale (ix1 o) + (args m c).shift (ix1 o) := by
  rw [b1_eq]
  pointwise

/-- A distance. -/
theorem dist_apply (c : Dev nD) (b : Fin 8) (k : Fin 6) (n : Fin 20000) : dist m c (ix3 b k n) = (args m c).dist (ix3 b n k) := by
  rw [dist_eq]
  pointwise

/-- A class bias. -/
theorem bc_apply (c : Dev nD) (o : Fin 18) : bc m c (ix2 o 0) = (args m c).bc (ix1 o) := by
  rw [bc_eq]
  pointwise

/-- A regression bias. -/
theorem br_apply (c : Dev nD) (o : Fin 7) : br m c (ix2 o 0) = (args m c).br (ix1 o) := by
  rw [br_eq]
  pointwise

/-! ## The equation: scaling the weights beforehand is normalising afterwards -/

/-- On tame arguments the kernel's hidden column is the problem's. -/
theorem hid_eq (c : Dev nD) (hT : Spec.Tame (args m c)) (b : Fin 8) (n : Fin 20000) (o : Fin 128) :
    hid m c b n o = Spec.hidden (args m c) b n o := by
  unfold hid unit Spec.hidden
  refine congrArg (fun x : EReal => max x 0) ?_
  rw [b1_apply]
  refine (congrArg (· + _) (Finset.sum_congr rfl fun k _ => ?_)).trans
    (Fold.affine_scale (fun k => (args m c).w1 (ix2 o k)) (fun k => (args m c).feat (ix3 b k n)) _ _ _ (hT o).1
      ((hT o).2.imp id fun h => ⟨h.1, fun k => h.2 b k n⟩))
  show w1 m c (ix2 o k) * feat m c (ix3 b k n) = _
  rw [w1_apply, feat_eq]

/-- The kernel's class scores are the problem's. -/
theorem scores_apply (c : Dev nD) (hT : Spec.Tame (args m c)) (b : Fin 8) (o : Fin 18) (n : Fin 20000) :
    scores m c (ix3 b o n) = Spec.score (args m c) b n o := by
  show head (fun k => wc m c (ix2 o k)) (hid m c b n) (bc m c (ix2 o 0)) = _
  unfold head Spec.score
  rw [bc_apply]
  refine congrArg (· + _) (Finset.sum_congr rfl fun k _ => ?_)
  rw [hid_eq m c hT, wc_eq]
  exact mul_comm _ _

/-- The kernel's regression values are the problem's. -/
theorem regAt_eq (c : Dev nD) (hT : Spec.Tame (args m c)) (b : Fin 8) (o : Fin 7) (n : Fin 20000) :
    regAt m c b o n = Spec.reg (args m c) b n o := by
  unfold regAt head Spec.reg
  rw [br_apply]
  refine congrArg (· + _) (Finset.sum_congr rfl fun k _ => ?_)
  rw [hid_eq m c hT, wr_eq]
  exact mul_comm _ _

/-! ## The results -/

/-- The first result is the class-score array transposed, … -/
theorem tail10 (c : Dev nD) : Pipeline.afterTail₀ cfgs (dats m) 0 (V0 m) [hostOps1] c main_v10
    = transpose S8x20000x18 [0, 2, 1] (scores m c) transposes_S8x18x20000_S8x20000x18_0_2_1 := by
  unfold Pipeline.afterTail₀
  simp only [hostOps1, List.flatten_cons, List.flatten_nil, List.append_nil, List.cons_append, List.nil_append]
  after_results
  rw [← final8 m c]
  exact congrArg (fun x => transpose S8x20000x18 [0, 2, 1] x transposes_S8x18x20000_S8x20000x18_0_2_1)
    (Pipeline.withArrays_arr spec0 winFacts0.arr_inj c (V0 m c) _ 8)

/-- … the third the distance array transposed, … -/
theorem tail11 (c : Dev nD) : Pipeline.afterTail₀ cfgs (dats m) 0 (V0 m) [hostOps1] c main_v11
    = transpose S8x20000x6 [0, 2, 1] (dists m c) transposes_S8x6x20000_S8x20000x6_0_2_1 := by
  unfold Pipeline.afterTail₀
  simp only [hostOps1, List.flatten_cons, List.flatten_nil, List.append_nil, List.cons_append, List.nil_append]
  after_results
  rw [← final10 m c]
  exact congrArg (fun x => transpose S8x20000x6 [0, 2, 1] x transposes_S8x6x20000_S8x20000x6_0_2_1)
    (Pipeline.withArrays_arr spec0 winFacts0.arr_inj c (V0 m c) _ 10)

/-- … and the second the angle array without its unit axis. -/
theorem tail12 (c : Dev nD) : Pipeline.afterTail₀ cfgs (dats m) 0 (V0 m) [hostOps1] c main_v12
    = shapeCast S8x20000 (angles m c) shapeCasts_S8x1x20000_S8x20000 := by
  unfold Pipeline.afterTail₀
  simp only [hostOps1, List.flatten_cons, List.flatten_nil, List.append_nil, List.cons_append, List.nil_append]
  after_results
  rw [← final9 m c]
  exact congrArg (fun x => shapeCast S8x20000 x shapeCasts_S8x1x20000_S8x20000)
    (Pipeline.withArrays_arr spec0 winFacts0.arr_inj c (V0 m c) _ 9)

/-- The class-score array transposed is the problem's first result. -/
theorem result0 (c : Dev nD) (hT : Spec.Tame (args m c)) :
    transpose S8x20000x18 [0, 2, 1] (scores m c) transposes_S8x18x20000_S8x20000x18_0_2_1 = Spec.scores (args m c) := by
  funext j
  obtain ⟨b, n, o, rfl⟩ : ∃ (b : Fin 8) (n : Fin 20000) (o : Fin 18), j = ix3 b n o := ⟨j 0, j 1, j 2, ValueIdx.eq_ix3 j⟩
  show _ = Spec.score (args m c) b n o
  pointwise
  exact scores_apply m c hT b o n

/-- The angle array without its unit axis is the problem's second result. -/
theorem result1 (c : Dev nD) (hT : Spec.Tame (args m c)) :
    shapeCast S8x20000 (angles m c) shapeCasts_S8x1x20000_S8x20000 = Spec.angles (args m c) := by
  funext j
  obtain ⟨b, n, rfl⟩ : ∃ (b : Fin 8) (n : Fin 20000), j = ix2 b n := ⟨j 0, j 1, ValueIdx.eq_ix2 j⟩
  show _ = Spec.reg (args m c) b n 0
  pointwise
  exact regAt_eq m c hT b 0 n

/-- The distance array transposed is the problem's third result. -/
theorem result2 (c : Dev nD) (hT : Spec.Tame (args m c)) :
    transpose S8x20000x6 [0, 2, 1] (dists m c) transposes_S8x6x20000_S8x20000x6_0_2_1 = Spec.dists (args m c) := by
  funext j
  obtain ⟨b, n, o, rfl⟩ : ∃ (b : Fin 8) (n : Fin 20000) (o : Fin 6), j = ix3 b n o := ⟨j 0, j 1, j 2, ValueIdx.eq_ix3 j⟩
  show _ = (args m c).dist (ix3 b n o) + Spec.reg (args m c) b n ⟨o.val + 1, by omega⟩
  pointwise
  show dist m c (ix3 b o n) + regAt m c b ⟨o.val + 1, by omega⟩ n = _
  rw [dist_apply, regAt_eq m c hT]

end Cert.KernelIdeal.Block

end
-- ==== Proof.RefValue.lean ====
/- What the reference computes, element by element on the extended reals: the mathematics of `Spec.lean`. -/
module

public import proofs.«01_k».proof.Proof.Gen.ReferenceIdeal.Run
public import proofs.«01_k».proof.Proof.Spec

@[expose] public section

noncomputable section

namespace Cert.ReferenceIdeal.Read

open Cert.ReferenceIdeal Cert.ReferenceIdeal.Gen Idealize.ShloMosaic Idealize.ShloMosaic.TcCoe Idealize.SL.Sem

variable (A : Spec.Args)

/-- The reference's hidden array of the arguments. -/
def hid : FVec Ideal S8x128x20000 .f32 :=
  maximumf (addf (mulf (addf (transpose S8x128x20000 [0, 2, 1] (Host.dotGeneral dot_S8x128x20000_S128x128_S8x20000x128_1_1_02_0_n_n none A.feat A.w1) transposes_S8x20000x128_S8x128x20000_0_2_1) (broadcastInDim S8x128x20000 ![0, 1, 2] bcast_S1x128x1_S8x128x20000_0_1_2 (broadcastInDim S1x128x1 ![1] bcast_S128_S1x128x1_1 A.b1))) (broadcastInDim S8x128x20000 ![0, 1, 2] bcast_S1x128x1_S8x128x20000_0_1_2 (broadcastInDim S1x128x1 ![1] bcast_S128_S1x128x1_1 A.scale))) (broadcastInDim S8x128x20000 ![0, 1, 2] bcast_S1x128x1_S8x128x20000_0_1_2 (broadcastInDim S1x128x1 ![1] bcast_S128_S1x128x1_1 A.shift))) (broadcastInDim S8x128x20000 ![] bcast_S_S8x128x20000 (constant S_ .f32 0x00000000#32))

/-- The reference's regression array, columns second. -/
def regs : FVec Ideal S8x20000x7 .f32 :=
  transpose S8x20000x7 [0, 2, 1] (addf (transpose S8x7x20000 [0, 2, 1] (Host.dotGeneral dot_S8x128x20000_S7x128_S8x20000x7_1_1_02_0_n_n none (hid A) A.wr) transposes_S8x20000x7_S8x7x20000_0_2_1) (broadcastInDim S8x7x20000 ![0, 1, 2] bcast_S1x7x1_S8x7x20000_0_1_2 (broadcastInDim S1x7x1 ![1] bcast_S7_S1x7x1_1 A.br))) transposes_S8x7x20000_S8x20000x7_0_2_1

/-- The hidden array at an index. -/
theorem hid_apply (b : Fin 8) (o : Fin 128) (n : Fin 20000) : hid A (ix3 b o n) = Spec.hidden A b n o := by
  unfold hid Spec.hidden
  pointwise [dot_S8x128x20000_S128x128_S8x20000x128_1_1_02_0_n_n]

/-- The regression array at an index. -/
theorem regs_apply (b : Fin 8) (n : Fin 20000) (o : Fin 7) : regs A (ix3 b n o) = Spec.reg A b n o := by
  unfold regs Spec.reg
  pointwise [dot_S8x128x20000_S7x128_S8x20000x7_1_1_02_0_n_n, hid_apply]

/-- The reference's class scores are the problem's. -/
theorem scores_eq : transpose S8x20000x18 [0, 2, 1] (addf (transpose S8x18x20000 [0, 2, 1] (Host.dotGeneral dot_S8x128x20000_S18x128_S8x20000x18_1_1_02_0_n_n none (hid A) A.wc) transposes_S8x20000x18_S8x18x20000_0_2_1) (broadcastInDim S8x18x20000 ![0, 1, 2] bcast_S1x18x1_S8x18x20000_0_1_2 (broadcastInDim S1x18x1 ![1] bcast_S18_S1x18x1_1 A.bc))) transposes_S8x18x20000_S8x20000x18_0_2_1
    = Spec.scores A := by
  funext j
  obtain ⟨b, n, o, rfl⟩ : ∃ (b : Fin 8) (n : Fin 20000) (o : Fin 18), j = ix3 b n o := ⟨j 0, j 1, j 2, ValueIdx.eq_ix3 j⟩
  show _ = Spec.score A b n o
  unfold Spec.score
  pointwise [dot_S8x128x20000_S18x128_S8x20000x18_1_1_02_0_n_n, hid_apply]

/-- The reference's angles are the problem's. -/
theorem angles_eq : shapeCast S8x20000 (extractStridedSlice S8x20000x1 ![0, 0, 0] (regs A) slices_S8x20000x7_S8x20000x1_0_0_0) shapeCasts_S8x20000x1_S8x20000
    = Spec.angles A := by
  funext j
  obtain ⟨b, n, rfl⟩ : ∃ (b : Fin 8) (n : Fin 20000), j = ix2 b n := ⟨j 0, j 1, ValueIdx.eq_ix2 j⟩
  show _ = Spec.reg A b n 0
  pointwise [regs_apply]

/-- The reference's refined distances are the problem's. -/
theorem dists_eq : addf A.dist (extractStridedSlice S8x20000x6 ![0, 0, 1] (regs A) slices_S8x20000x7_S8x20000x6_0_0_1)
    = Spec.dists A := by
  funext j
  obtain ⟨b, n, o, rfl⟩ : ∃ (b : Fin 8) (n : Fin 20000) (o : Fin 6), j = ix3 b n o := ⟨j 0, j 1, j 2, ValueIdx.eq_ix3 j⟩
  show _ = A.dist (ix3 b n o) + Spec.reg A b n ⟨o.val + 1, by omega⟩
  pointwise [regs_apply]
  simp only [Nat.add_comm 1]

end Cert.ReferenceIdeal.Read

end
-- ==== Proof.Runs.lean ====
/- The runs of the two programs, with their results named by the problem's mathematics (Spec.lean). -/
module

public import proofs.«01_k».proof.Proof.Results
public import proofs.«01_k».proof.Proof.RefValue

@[expose] public section

noncomputable section

namespace Cert.KernelIdeal.Block

open Cert.KernelIdeal Cert.KernelIdeal.Gen Idealize.ShloMosaic Idealize.ShloMosaic.TcCoe Idealize.SL.Sem

/-- From tame arguments the kernel runs and ends with the problem's three computed results. -/
theorem run (m : (ℓ : Loc nD τ sig) → Buf (Elt Ideal) ℓ) (ρ : Dev nD → PrngReg) (hT : ∀ c, Spec.Tame (args m c)) :
    θ_run defs (onTc (τ := τ) (main (F := Ideal))) ⟨m, fun _ => 0, ρ⟩ fun r => ∀ c : Dev nD,
      r.2.mem ((c.tc : Thread nD τ).loc main_v10) = Spec.scores (args m c)
      ∧ r.2.mem ((c.tc : Thread nD τ).loc main_v12) = Spec.angles (args m c)
      ∧ r.2.mem ((c.tc : Thread nD τ).loc main_v11) = Spec.dists (args m c) :=
  (θ_run defs _ _).mono (fun _ h c =>
    ⟨((h c).2 main_v10 (Pipeline.mem_restRefs_of main_v10 (by decide) (by decide))).trans ((tail10 m c).trans (result0 m c (hT c))),
     ((h c).2 main_v12 (Pipeline.mem_restRefs_of main_v12 (by decide) (by decide))).trans ((tail12 m c).trans (result1 m c (hT c))),
     ((h c).2 main_v11 (Pipeline.mem_restRefs_of main_v11 (by decide) (by decide))).trans ((tail11 m c).trans (result2 m c (hT c)))⟩)
    (run_main m ρ)

end Cert.KernelIdeal.Block

namespace Cert.ReferenceIdeal.Read

open Cert.ReferenceIdeal Cert.ReferenceIdeal.Gen Idealize.ShloMosaic Idealize.ShloMosaic.TcCoe Idealize.SL.Sem

/-- The arguments of device `c`. -/
abbrev args (m : (ℓ : Loc nD τ sig) → Buf (Elt Ideal) ℓ) (c : Dev nD) : Spec.Args where
  feat := m ((c : Thread nD τ).loc main_arg0)
  dist := m ((c : Thread nD τ).loc main_arg2)
  w1 := m ((c : Thread nD τ).loc main_arg3)
  b1 := m ((c : Thread nD τ).loc main_arg4)
  scale := m ((c : Thread nD τ).loc main_arg5)
  shift := m ((c : Thread nD τ).loc main_arg6)
  wc := m ((c : Thread nD τ).loc main_arg7)
  bc := m ((c : Thread nD τ).loc main_arg8)
  wr := m ((c : Thread nD τ).loc main_arg9)
  br := m ((c : Thread nD τ).loc main_arg10)

/-- The reference runs and ends with the problem's three computed results. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v22) = Spec.scores (args m c)
      ∧ r.2.mem ((c.tc : Thread nD τ).loc main_v25) = Spec.angles (args m c)
      ∧ r.2.mem ((c.tc : Thread nD τ).loc main_v27) = Spec.dists (args m c) :=
  (θ_run defs _ _).mono (fun _ h c =>
    ⟨(h c).1.trans (scores_eq (args m c)), (h c).2.1.trans (angles_eq (args m c)), (h c).2.2.1.trans (dists_eq (args m c))⟩)
    (Value.run (F := Ideal) m ρ)

end Cert.ReferenceIdeal.Read

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Pre
public import proofs.«01_k».proof.Proof.Runs
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem

attribute [local instance] Cert.Pre_tame.shapeFacts

/-- From every memory the reference runs, leaves its arguments as they were, and declares no semaphore. -/
theorem frame_reference : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

/-- The arguments of a memory that meets the precondition are tame. -/
theorem tame (m : (ℓ : Loc Cert.KernelIdeal.nD Cert.KernelIdeal.τ Cert.KernelIdeal.sig) → Buf (Elt Ideal) ℓ)
    (h : Cert.Pre_KernelIdeal_tame m) (c : Dev Cert.KernelIdeal.nD) : Spec.Tame (Cert.KernelIdeal.Block.args m c) :=
  fun o => Cert.Pre_tame.tame_apply _ _ _ _ _ _ _ _ _ _ _ (h c).1 (h c).2.1 (h c).2.2 o

/-- From tame arguments that agree, the kernel and the reference run and end with the same four results. -/
theorem algebraic : Cert.algebraic_KernelIdeal_ReferenceIdeal_pre_tame := by
  intro m ρ m' ρ' hpre hagree
  have e (c : Dev Cert.KernelIdeal.nD) : Cert.ReferenceIdeal.Read.args m' c = Cert.KernelIdeal.Block.args m c := by
    obtain ⟨h0, -, h2, h3, h4, h5, h6, h7, h8, h9, h10⟩ := hagree c
    unfold Cert.ReferenceIdeal.Read.args Cert.KernelIdeal.Block.args
    rw [h0, h2, h3, h4, h5, h6, h7, h8, h9, h10]
  refine ⟨fun c => Spec.scores (Cert.KernelIdeal.Block.args m c), fun c => Spec.angles (Cert.KernelIdeal.Block.args m c),
    fun c => Spec.dists (Cert.KernelIdeal.Block.args m c), fun c => m (c.tc.loc Cert.KernelIdeal.main_arg1), ?_, ?_⟩
  · exact (θ_run Cert.KernelIdeal.defs _ _).mono
      (fun _ h c => ⟨(h.1 c).1, (h.1 c).2.1, (h.1 c).2.2, (h.2.1 c).2.1, h.2.1 c⟩)
      (θ_run_and (Cert.KernelIdeal.Block.run m ρ (tame m hpre)) (Cert.KernelIdeal.Gen.frame (F := Ideal) m ρ))
  · exact (θ_run Cert.ReferenceIdeal.defs _ _).mono
      (fun _ h c => ⟨(h.1 c).1.trans (congrArg Spec.scores (e c)), (h.1 c).2.1.trans (congrArg Spec.angles (e c)),
        (h.1 c).2.2.trans (congrArg Spec.dists (e c)), (h.2 c).2.2.2.1.trans (hagree c).2.1, (h.2 c).2.2.2.2⟩)
      (θ_run_and (Cert.ReferenceIdeal.Read.run m' ρ') (Cert.ReferenceIdeal.Value.run (F := Ideal) m' ρ'))

/-- All the claims: the three frames, that idealising rewrote nothing, and the value claim. -/
theorem claim : Cert.Claim :=
  ⟨Cert.Kernel.Gen.facts, Cert.KernelIdeal.Gen.facts, Cert.ReferenceIdeal.Gen.facts, Cert.Pre_tame.shapeFacts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial, trivial, algebraic⟩

end Cert.Proof

end
